-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S16384x1000 : Shape := ⟨2, ![16384, 1000]⟩
abbrev S16384 : Shape := ⟨1, ![16384]⟩
abbrev S1000x1000 : Shape := ⟨2, ![1000, 1000]⟩
abbrev S_ : Shape := ⟨0, ![]⟩

class Facts : Prop where
  bcast_S_S16384x1000 : S_.BroadcastsInDim S16384x1000 (![] : Fin 0 → Fin S16384x1000.rank)
  bcast_S_S16384 : S_.BroadcastsInDim S16384 (![] : Fin 0 → Fin S16384.rank)
  bcast_S_S1000x1000 : S_.BroadcastsInDim S1000x1000 (![] : Fin 0 → Fin S1000x1000.rank)

variable [Facts]

def fn {F : FTy → Type} [FloatOps F] (main_arg0 : FVec F S16384x1000 .f32) (main_arg1 : IVec S16384 32) (main_arg2 : FVec F S1000x1000 .f32) : IVec S16384x1000 1 × IVec S16384 1 × IVec S1000x1000 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 32 := constantI S_ 32 0#32
  let main_v3 : IVec S16384 32 := broadcastInDim S16384 ![] bcast_S_S16384 main_c
  let main_v4 : IVec S16384 1 := cmpi .sge main_arg1 main_v3
  let main_c_0 : IVec S_ 32 := constantI S_ 32 1000#32
  let main_v5 : IVec S16384 32 := broadcastInDim S16384 ![] bcast_S_S16384 main_c_0
  let main_v6 : IVec S16384 1 := cmpi .slt main_arg1 main_v5
  let main_v7 : IVec S16384 1 := andi main_v4 main_v6
  let main_v8 : FVec F S1000x1000 .f32 := Host.absf main_arg2
  let main_cst_1 : FVec F S_ .f32 := constant S_ .f32 0x7F800000#32
  let main_v9 : FVec F S1000x1000 .f32 := broadcastInDim S1000x1000 ![] bcast_S_S1000x1000 main_cst_1
  let main_v10 : IVec S1000x1000 1 := cmpf .olt main_v8 main_v9
  (main_v2, main_v7, main_v10)
-- ==== Kernel.lean ====
abbrev S16384x1000 : Shape := ⟨2, ![16384, 1000]⟩
abbrev S16384 : Shape := ⟨1, ![16384]⟩
abbrev S1000x1000 : Shape := ⟨2, ![1000, 1000]⟩
abbrev S2x4x1x2048 : Shape := ⟨4, ![2, 4, 1, 2048]⟩
abbrev S2x8192x1000 : Shape := ⟨3, ![2, 8192, 1000]⟩
abbrev S_ : Shape := ⟨0, ![]⟩
abbrev S1x1 : Shape := ⟨2, ![1, 1]⟩
abbrev S1x1x1x2048 : Shape := ⟨4, ![1, 1, 1, 2048]⟩
abbrev S1x2048x1000 : Shape := ⟨3, ![1, 2048, 1000]⟩
abbrev S1024x1024 : Shape := ⟨2, ![1024, 1024]⟩
abbrev S1000 : Shape := ⟨1, ![1000]⟩
abbrev S1000x1 : Shape := ⟨2, ![1000, 1]⟩
abbrev S2048x1000 : Shape := ⟨2, ![2048, 1000]⟩
abbrev S2048 : Shape := ⟨1, ![2048]⟩
abbrev S2048x1 : Shape := ⟨2, ![2048, 1]⟩
abbrev S2048x1024 : Shape := ⟨2, ![2048, 1024]⟩
abbrev S1x2048x1 : Shape := ⟨3, ![1, 2048, 1]⟩
abbrev S1 : Shape := ⟨1, ![1]⟩
abbrev S1x1x1 : Shape := ⟨3, ![1, 1, 1]⟩

abbrev nBuf : Space → Nat
  | .hbm => 11
  | .vmem => 11
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S1000x1000, .f32⟩
  | .hbm, ⟨3, _⟩ => ⟨S2x4x1x2048, .i32⟩
  | .hbm, ⟨4, _⟩ => ⟨S2x8192x1000, .f32⟩
  | .hbm, ⟨5, _⟩ => ⟨S_, .f32⟩
  | .hbm, ⟨6, _⟩ => ⟨S1000x1000, .f32⟩
  | .hbm, ⟨7, _⟩ => ⟨S1000x1000, .f32⟩
  | .hbm, ⟨8, _⟩ => ⟨S1000x1000, .bf16⟩
  | .hbm, ⟨9, _⟩ => ⟨S1x1, .f32⟩
  | .hbm, ⟨10, _⟩ => ⟨S_, .f32⟩
  | .local _ .vmem, ⟨0, _⟩ => ⟨S1x1x1x2048, .i32⟩
  | .local _ .vmem, ⟨1, _⟩ => ⟨S1x1x1x2048, .i32⟩
  | .local _ .vmem, ⟨2, _⟩ => ⟨S1x1x1x2048, .i32⟩
  | .local _ .vmem, ⟨3, _⟩ => ⟨S1x1x1x2048, .i32⟩
  | .local _ .vmem, ⟨4, _⟩ => ⟨S1x2048x1000, .f32⟩
  | .local _ .vmem, ⟨5, _⟩ => ⟨S1x2048x1000, .f32⟩
  | .local _ .vmem, ⟨6, _⟩ => ⟨S1x2048x1000, .f32⟩
  | .local _ .vmem, ⟨7, _⟩ => ⟨S1x2048x1000, .f32⟩
  | .local _ .vmem, ⟨8, _⟩ => ⟨S1000x1000, .bf16⟩
  | .local _ .vmem, ⟨9, _⟩ => ⟨S1x1, .f32⟩
  | .local _ .vmem, ⟨10, _⟩ => ⟨S1024x1024, .bf16⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1000x1000 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16384x1000 : Shape := ⟨2, ![16384, 1000]⟩
abbrev S16384 : Shape := ⟨1, ![16384]⟩
abbrev S1000x1000 : Shape := ⟨2, ![1000, 1000]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x2 : Shape := ⟨2, ![16384, 2]⟩

abbrev nBuf : Space → Nat
  | .hbm => 73
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S1000x1000, .f32⟩
  | .hbm, ⟨3, _⟩ => ⟨S_, .f32⟩
  | .hbm, ⟨4, _⟩ => ⟨S16384, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S16384x1, .f32⟩
  | .hbm, ⟨9, _⟩ => ⟨S16384x1000, .f32⟩
  | .hbm, ⟨10, _⟩ => ⟨S16384x1000, .f32⟩
  | .hbm, ⟨11, _⟩ => ⟨S16384x1000, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S16384x1, .f32⟩
  | .hbm, ⟨16, _⟩ => ⟨S16384x1000, .f32⟩
  | .hbm, ⟨17, _⟩ => ⟨S16384x1000, .f32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S16384x1, .i32⟩
  | .hbm, ⟨26, _⟩ => ⟨S1, .i32⟩
  | .hbm, ⟨27, _⟩ => ⟨S_, .i32⟩
  | .hbm, ⟨28, _⟩ => ⟨S16384x1, .i32⟩
  | .hbm, ⟨29, _⟩ => ⟨S16384x1, .i1⟩
  | .hbm, ⟨30, _⟩ => ⟨S1x1, .i32⟩
  | .hbm, ⟨31, _⟩ => ⟨S16384x1, .i32⟩
  | .hbm, ⟨32, _⟩ => ⟨S16384x1, .i1⟩
  | .hbm, ⟨33, _⟩ => ⟨S16384x1, .i1⟩
  | .hbm, ⟨34, _⟩ => ⟨S_, .i1⟩
  | .hbm, ⟨35, _⟩ => ⟨S16384, .i1⟩
  | .hbm, ⟨36, _⟩ => ⟨S16384x1000, .f32⟩
  | .hbm, ⟨37, _⟩ => ⟨S16384x1000, .i1⟩
  | .hbm, ⟨38, _⟩ => ⟨S_, .f32⟩
  | .hbm, ⟨39, _⟩ => ⟨S16384x1000, .f32⟩
  | .hbm, ⟨40, _⟩ => ⟨S16384x1000, .f32⟩
  | .hbm, ⟨41, _⟩ => ⟨S_, .f32⟩
  | .hbm, ⟨42, _⟩ => ⟨S16384x1000, .f32⟩
  | .hbm, ⟨43, _⟩ => ⟨S16384x1000, .f32⟩
  | .hbm, ⟨44, _⟩ => ⟨S16384, .i32⟩
  | .hbm, ⟨45, _⟩ => ⟨S_, .i32⟩
  | .hbm, ⟨46, _⟩ => ⟨S16384, .i32⟩
  | .hbm, ⟨47, _⟩ => ⟨S16384, .i1⟩
  | .hbm, ⟨48, _⟩ => ⟨S_, .i32⟩
  | .hbm, ⟨49, _⟩ => ⟨S16384, .i32⟩
  | .hbm, ⟨50, _⟩ => ⟨S16384, .i32⟩
  | .hbm, ⟨51, _⟩ => ⟨S16384, .i32⟩
  | .hbm, ⟨52, _⟩ => ⟨S_, .i32⟩
  | .hbm, ⟨53, _⟩ => ⟨S16384, .i32⟩
  | .hbm, ⟨54, _⟩ => ⟨S16384, .i1⟩
  | .hbm, ⟨55, _⟩ => ⟨S_, .i32⟩
  | .hbm, ⟨56, _⟩ => ⟨S16384, .i32⟩
  | .hbm, ⟨57, _⟩ => ⟨S16384, .i32⟩
  | .hbm, ⟨58, _⟩ => ⟨S16384, .i32⟩
  | .hbm, ⟨59, _⟩ => ⟨S16384x1, .i32⟩
  | .hbm, ⟨60, _⟩ => ⟨S16384x1, .i32⟩
  | .hbm, ⟨61, _⟩ => ⟨S16384x2, .i32⟩
  | .hbm, ⟨62, _⟩ => ⟨S_, .f32⟩
  | .hbm, ⟨63, _⟩ => ⟨S16384, .f32⟩
  | .hbm, ⟨64, _⟩ => ⟨S16384x1000, .f32⟩
  | .hbm, ⟨65, _⟩ => ⟨S16384x1000, .f32⟩
  | .hbm, ⟨66, _⟩ => ⟨S16384x1000, .f32⟩
  | .hbm, ⟨67, _⟩ => ⟨S_, .f32⟩
  | .hbm, ⟨68, _⟩ => ⟨S16384, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_v14 : Ref sig .tc := ⟨.hbm, 37, rfl⟩
abbrev main_call1_cst : Ref sig .tc := ⟨.hbm, 38, rfl⟩
abbrev main_call1_v15 : Ref sig .tc := ⟨.hbm, 39, rfl⟩
abbrev main_v1 : Ref sig .tc := ⟨.hbm, 40, rfl⟩
abbrev main_cst : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_c : Ref sig .tc := ⟨.hbm, 45, rfl⟩
abbrev main_v5 : Ref sig .tc := ⟨.hbm, 46, rfl⟩
abbrev main_v6 : Ref sig .tc := ⟨.hbm, 47, rfl⟩
abbrev main_c_0 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_c_1 : Ref sig .tc := ⟨.hbm, 52, rfl⟩
abbrev main_v10 : Ref sig .tc := ⟨.hbm, 53, rfl⟩
abbrev main_v11 : Ref sig .tc := ⟨.hbm, 54, rfl⟩
abbrev main_c_2 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_cst_3 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_cst_4 : Ref sig .tc := ⟨.hbm, 67, rfl⟩
abbrev main_v22 : Ref sig .tc := ⟨.hbm, 68, rfl⟩
abbrev main_cst_5 : Ref sig .tc := ⟨.hbm, 69, rfl⟩
abbrev main_v23 : Ref sig .tc := ⟨.hbm, 70, rfl⟩
abbrev main_cst_6 : Ref sig .tc := ⟨.hbm, 71, rfl⟩
abbrev main_v24 : Ref sig .tc := ⟨.hbm, 72, rfl⟩

abbrev nD : Nat := 1
abbrev τ : Topo := Topo.v7x

variable {F : FTy → Type} [FloatOps F]
-- ==== Proof.Words.lean ====
module
public import Idealize.ShloMosaic.Lib.Pointwise

/-!
A comparison of two counted words decides whether the two counts are the same.
-/

@[expose] public section
noncomputable section
namespace Cert.Proof
open Idealize.ShloMosaic

/-- Small numbers are the same when their words are. -/
theorem ofNat_inj {a b : Nat} (ha : a < 2048) (hb : b < 2048) : BitVec.ofNat 32 a = BitVec.ofNat 32 b ↔ a = b := by
  refine ⟨fun e => ?_, fun e => by rw [e]⟩
  have h := congrArg BitVec.toNat e
  simp only [BitVec.toNat_ofNat] at h
  omega

/-- Comparing the words of two small numbers. -/
theorem cmpi_ofNat {a b : Nat} (ha : a < 2048) (hb : b < 2048) :
    IntOp.cmpi .eq (BitVec.ofNat 32 a) (BitVec.ofNat 32 b) = if a = b then 1#1 else 0#1 := by
  by_cases h : a = b
  · subst h; simp [IntOp.cmpi]
  · have h' : BitVec.ofNat 32 a ≠ BitVec.ofNat 32 b := fun e => h ((ofNat_inj ha hb).mp e)
    have h'' : (BitVec.ofNat 32 a == BitVec.ofNat 32 b) = false := by simpa using h'
    rw [if_neg h]
    show BitVec.ofBool (BitVec.ofNat 32 a == BitVec.ofNat 32 b) = 0#1
    rw [h'']; rfl

/-- Choosing by that comparison. -/
theorem select_ofNat {α : Type} {a b : Nat} (ha : a < 2048) (hb : b < 2048) (u v : α) :
    Scalar.select (IntOp.cmpi .eq (BitVec.ofNat 32 a) (BitVec.ofNat 32 b)) u v = if a = b then u else v := by
  rw [cmpi_ofNat ha hb]
  by_cases h : a = b
  · rw [if_pos h, if_pos h]; rfl
  · rw [if_neg h, if_neg h]; rfl

/-- The comparison as a number: one where the counts agree, zero elsewhere. -/
theorem hot_ofNat {a b : Nat} (ha : a < 2048) (hb : b < 2048) :
    (FloatOps.sitofp .f32 (BitVec.setWidth 32 (IntOp.cmpi .eq (BitVec.ofNat 32 a) (BitVec.ofNat 32 b))) : Ideal .f32)
      = (if a = b then 1 else 0 : EReal) := by
  rw [cmpi_ofNat ha hb]
  by_cases h : a = b
  · rw [if_pos h, if_pos h]
    show (((BitVec.setWidth 32 1#1).toInt : ℝ) : EReal) = 1
    rw [show (BitVec.setWidth 32 1#1).toInt = 1 from by decide]; norm_num
  · rw [if_neg h, if_neg h]
    show (((BitVec.setWidth 32 0#1).toInt : ℝ) : EReal) = 0
    rw [show (BitVec.setWidth 32 0#1).toInt = 0 from by decide]; norm_num

end Cert.Proof
-- ==== Proof.Cases.lean ====
module
public import proofs.«01_k».proof.Proof.Gen.KernelIdeal.Frame
public import proofs.«01_k».proof.Proof.Words
public import Idealize.ShloMosaic.Lib.Pipeline.ValueKit
public import Idealize.ShloMosaic.Lib.Pipeline.ReadBack
public import Idealize.ShloMosaic.Lib.Pointwise
public import Idealize.ShloMosaic.Lib.VecWindow
public import Idealize.ShloMosaic.Lib.Tactic

/-!
What one grid point does with its five input blocks, as functions of the blocks alone: the label table the first
point builds, and the amount every point adds to the running sum.
-/

@[expose] public section
set_option maxRecDepth 16384
noncomputable section
namespace Cert.Proof
open Idealize.ShloMosaic Idealize.ShloMosaic.TcCoe Idealize.SL.Sem
open Cert.KernelIdeal Cert.KernelIdeal.Gen

/-- What a point leaves in the running sum: from the labels `x0`, `x1` and the rows `x2`, `x3` of its two halves, the
    label table `aug` and the sum `acc` so far. -/
def step (x0 x1 : Vec Ideal S1x1x1x2048 .i32) (x2 x3 : Vec Ideal S1x2048x1000 .f32) (aug : Vec Ideal S1024x1024 .bf16)
    (acc : Vec Ideal S1x1 .f32) : Vec Ideal S1x1 .f32 :=
  k0_pay2 (k0_pay14 (k0_pay8 x2) (k0_pay12 x0 aug) (k0_pay13 x2 x0 aug)) (k0_pay15 x3) (k0_pay19 x1 aug)
    (k0_pay20 x3 x1 aug) acc

/-- The four stores the first point makes into the label table, the last one first. -/
def tableStores (x4 : Vec Ideal S1000x1000 .bf16) : List (View.Piece (Elt Ideal) S1024x1024 .bf16) :=
  [⟨Rect.unit ![0, 1001] ![1000, 1] inb_S1024x1024_S1000x1_0_1001, k0_pay7 x4⟩,
   ⟨Rect.unit ![0, 1000] ![1000, 1] inb_S1024x1024_S1000x1_0_1000, k0_pay6 x4⟩,
   ⟨Rect.unit ![0, 0] ![1000, 1000] inb_S1024x1024_S1000x1000_0_0, k0_pay5 x4⟩,
   ⟨Rect.unit ![0, 0] ![1024, 1024] inb_S1024x1024_S1024x1024_0_0, k0_pay4 (F := Ideal)⟩]

/-- The label table the first point leaves. -/
def table (x4 : Vec Ideal S1000x1000 .bf16) : Vec Ideal S1024x1024 .bf16 := View.canon (tableStores x4)

variable (m : (ℓ : Loc nD τ sig) → Buf (Elt Ideal) ℓ)

/-- The first point leaves the table of its block. -/
theorem table_A (c : Dev nD) (t : Fin cfg0.N) (h0 : t.val % 4 = 0) :
    (outsAt0 m c t.val t.isLt).2 = table (iblk m c 4 t) := by
  rw [outsAt0_A m c t h0 h0]
  dsimp only
  frame_out
  rfl

/-- The first point's sum: one step from nothing, at the table it has just left. -/
theorem point_A (c : Dev nD) (t : Fin cfg0.N) (h0 : t.val % 4 = 0) :
    (outsAt0 m c t.val t.isLt).1 = step (iblk m c 0 t) (iblk m c 1 t) (iblk m c 2 t) (iblk m c 3 t)
      (table (iblk m c 4 t)) (k0_pay1 (F := Ideal)) := by
  rw [outsAt0_A m c t h0 h0]
  dsimp only
  frame_out
  have key : (View.whole cc0_scratch0).readCov (tableStores (iblk m c 4 t))
      (Rect.unit (s := S1024x1024) ![0, 0] ![1024, 1024] inb_S1024x1024_S1024x1024_0_0).toLoadRect = table (iblk m c 4 t) := by
    rw [View.readCov_eq_canon']
    funext j
    exact congrArg (table (iblk m c 4 t)) (Rect.emb_unit_full (s := S1024x1024) inb_S1024x1024_S1024x1024_0_0 j)
  unfold tableStores at key
  rw [key]
  rfl

/-- A later point's sum: one step from the point before, at the table it carries. -/
theorem point_B (c : Dev nD) (t : Fin cfg0.N) (h0 : ¬t.val % 4 = 0) :
    (outsAt0 m c t.val t.isLt).1 = step (iblk m c 0 t) (iblk m c 1 t) (iblk m c 2 t) (iblk m c 3 t)
      (outsAt0 m c (t.val - 1) (Nat.lt_of_le_of_lt (Nat.sub_le _ _) t.isLt)).2
      (outsAt0 m c (t.val - 1) (Nat.lt_of_le_of_lt (Nat.sub_le _ _) t.isLt)).1 := by
  rw [outsAt0_B m c t h0 h0]
  dsimp only
  frame_out
  rw [read_unread_whole]
  rfl

/-- A later point leaves the table as it found it. -/
theorem table_B (c : Dev nD) (t : Fin cfg0.N) (h0 : ¬t.val % 4 = 0) :
    (outsAt0 m c t.val t.isLt).2
      = (outsAt0 m c (t.val - 1) (Nat.lt_of_le_of_lt (Nat.sub_le _ _) t.isLt)).2 := by
  rw [outsAt0_B m c t h0 h0]
  rfl

/-! ## The table, entry by entry -/

section stores
variable {Val : EltTy → Type} {e : EltTy} {n k a b o p : Nat}

/-- Inside the last store's box the contents are that store's. -/
theorem canon_hit [∀ e, Nonempty (Val e)] (inb : ∀ x, (![o, p] : Fin 2 → Nat) x + (![a, b] : Fin 2 → Nat) x ≤ (⟨2, ![n, k]⟩ : Shape).size x)
    (w : (⟨2, ![a, b]⟩ : Shape).Idx → Val e) (L : List (View.Piece Val ⟨2, ![n, k]⟩ e)) (i : Fin a) (j : Fin b)
    (I : Fin n) (J : Fin k) (hI : I.val = o + i.val) (hJ : J.val = p + j.val) :
    View.canon ((⟨Rect.unit ![o, p] ![a, b] inb, w⟩ : View.Piece Val ⟨2, ![n, k]⟩ e) :: L) (ix2 I J) = w (ix2 i j) := by
  have h := View.canon_cons_emb (Rect.unit (s := ⟨2, ![n, k]⟩) ![o, p] ![a, b] inb) w L (ix2 i j)
  have e : (Rect.unit (s := ⟨2, ![n, k]⟩) ![o, p] ![a, b] inb).emb (ix2 i j) = ix2 I J := by
    funext x
    refine Fin.ext ?_
    fin_cases x
    · exact (show o + 1 * i.val = I.val by omega)
    · exact (show p + 1 * j.val = J.val by omega)
  rw [e] at h
  exact h

/-- Outside the last store's box, by its columns, the contents are the earlier stores'. -/
theorem canon_left [∀ e, Nonempty (Val e)] (inb : ∀ x, (![o, p] : Fin 2 → Nat) x + (![a, b] : Fin 2 → Nat) x ≤ (⟨2, ![n, k]⟩ : Shape).size x)
    (w : (⟨2, ![a, b]⟩ : Shape).Idx → Val e) (L : List (View.Piece Val ⟨2, ![n, k]⟩ e))
    (I : Fin n) (J : Fin k) (h : J.val < p) :
    View.canon ((⟨Rect.unit ![o, p] ![a, b] inb, w⟩ : View.Piece Val ⟨2, ![n, k]⟩ e) :: L) (ix2 I J) = View.canon L (ix2 I J) :=
  View.canon_cons_of_not_mem _ _ fun hm => absurd (((Rect.mem_set_unit (inb := inb)).mp hm) 1).1 (Nat.not_le.mpr h)

/-- Below the last store's box the contents are the earlier stores'. -/
theorem canon_below [∀ e, Nonempty (Val e)] (inb : ∀ x, (![o, p] : Fin 2 → Nat) x + (![a, b] : Fin 2 → Nat) x ≤ (⟨2, ![n, k]⟩ : Shape).size x)
    (w : (⟨2, ![a, b]⟩ : Shape).Idx → Val e) (L : List (View.Piece Val ⟨2, ![n, k]⟩ e))
    (I : Fin n) (J : Fin k) (h : o + a ≤ I.val) :
    View.canon ((⟨Rect.unit ![o, p] ![a, b] inb, w⟩ : View.Piece Val ⟨2, ![n, k]⟩ e) :: L) (ix2 I J) = View.canon L (ix2 I J) :=
  View.canon_cons_of_not_mem _ _ fun hm => absurd (((Rect.mem_set_unit (inb := inb)).mp hm) 0).2 (Nat.not_lt.mpr h)

end stores

/-- The wide part of the table is the block. -/
theorem table_wide (x4 : Vec Ideal S1000x1000 .bf16) (a b : Fin 1000) (A B : Fin 1024) (hA : A.val = a.val) (hB : B.val = b.val) :
    table x4 (ix2 A B) = x4 (ix2 a b) := by
  have hb := b.isLt
  unfold table tableStores
  refine (canon_left (Val := Elt Ideal) (e := .bf16) (a := 1000) (b := 1) (o := 0) (p := 1001) inb_S1024x1024_S1000x1_0_1001 (k0_pay7 x4) _ A B (by omega)).trans ?_
  refine (canon_left (Val := Elt Ideal) (e := .bf16) (a := 1000) (b := 1) (o := 0) (p := 1000) inb_S1024x1024_S1000x1_0_1000 (k0_pay6 x4) _ A B (by omega)).trans ?_
  refine (canon_hit (Val := Elt Ideal) (e := .bf16) (a := 1000) (b := 1000) (o := 0) (p := 0) inb_S1024x1024_S1000x1000_0_0 (k0_pay5 x4) _ a b A B (by omega) (by omega)).trans ?_
  pointwise [k0_pay5, k0_pay3]

/-- Column 1000 holds the block's row sums. -/
theorem table_sum (x4 : Vec Ideal S1000x1000 .bf16) (a : Fin 1000) (A B : Fin 1024) (hA : A.val = a.val) (hB : B.val = 1000) :
    table x4 (ix2 A B) = ∑ j : Fin 1000, x4 (ix2 a j) := by
  unfold table tableStores
  refine (canon_left (Val := Elt Ideal) (e := .bf16) (a := 1000) (b := 1) (o := 0) (p := 1001) inb_S1024x1024_S1000x1_0_1001 (k0_pay7 x4) _ A B (by omega)).trans ?_
  refine (canon_hit (Val := Elt Ideal) (e := .bf16) (a := 1000) (b := 1) (o := 0) (p := 1000) inb_S1024x1024_S1000x1_0_1000 (k0_pay6 x4) _ a (0 : Fin 1) A B (by omega) (by simp [hB])).trans ?_
  pointwise [k0_pay6, k0_pay3]

/-- Column 1001 holds the block's diagonal. -/
theorem table_diag (x4 : Vec Ideal S1000x1000 .bf16) (a : Fin 1000) (A B : Fin 1024) (hA : A.val = a.val) (hB : B.val = 1001) :
    table x4 (ix2 A B) = x4 (ix2 a a) := by
  unfold table tableStores
  refine (canon_hit (Val := Elt Ideal) (e := .bf16) (a := 1000) (b := 1) (o := 0) (p := 1001) inb_S1024x1024_S1000x1_0_1001 (k0_pay7 x4) _ a (0 : Fin 1) A B (by omega) (by simp [hB])).trans ?_
  have h : k0_pay7 x4 (ix2 a (0 : Fin 1))
      = ∑ x : Fin 1000, Scalar.select (IntOp.cmpi .eq (BitVec.ofNat 32 a.val) (BitVec.ofNat 32 x.val)) (x4 (ix2 a x)) (0 : EReal) := by
    pointwise [k0_pay7, k0_pay3]
  rw [h, Finset.sum_eq_single a]
  · rw [select_ofNat (by omega) (by omega), if_pos rfl]
  · intro x _ hx
    rw [select_ofNat (by omega) (by omega), if_neg fun e => hx (Fin.ext e.symm)]
  · intro h; exact absurd (Finset.mem_univ a) h

/-- The rows past the block are zero. -/
theorem table_low (x4 : Vec Ideal S1000x1000 .bf16) (A B : Fin 1024) (hA : 1000 ≤ A.val) :
    table x4 (ix2 A B) = (0 : EReal) := by
  unfold table tableStores
  refine (canon_below (Val := Elt Ideal) (e := .bf16) (a := 1000) (b := 1) (o := 0) (p := 1001) inb_S1024x1024_S1000x1_0_1001 (k0_pay7 x4) _ A B (by omega)).trans ?_
  refine (canon_below (Val := Elt Ideal) (e := .bf16) (a := 1000) (b := 1) (o := 0) (p := 1000) inb_S1024x1024_S1000x1_0_1000 (k0_pay6 x4) _ A B (by omega)).trans ?_
  refine (canon_below (Val := Elt Ideal) (e := .bf16) (a := 1000) (b := 1000) (o := 0) (p := 0) inb_S1024x1024_S1000x1000_0_0 (k0_pay5 x4) _ A B (by omega)).trans ?_
  refine (canon_hit (Val := Elt Ideal) (e := .bf16) (a := 1024) (b := 1024) (o := 0) (p := 0) inb_S1024x1024_S1024x1024_0_0 (k0_pay4 (F := Ideal)) _ A B A B (by omega) (by omega)).trans ?_
  pointwise [k0_pay4]

end Cert.Proof
-- ==== Proof.Opened.lean ====
module
public import proofs.«01_k».proof.Proof.Cases

/-!
What one half of a block computes, opened entry by entry.
-/

@[expose] public section
set_option maxRecDepth 16384
noncomputable section
namespace Cert.Proof
open Idealize.ShloMosaic Idealize.ShloMosaic.TcCoe Idealize.SL.Sem
open Cert.KernelIdeal Cert.KernelIdeal.Gen

section half
variable (x0 : Vec Ideal S1x1x1x2048 .i32) (x2 : Vec Ideal S1x2048x1000 .f32) (aug : Vec Ideal S1024x1024 .bf16)

/-- The product with the one-hot rows, entry by entry. -/
theorem pick_open (r : Fin 2048) (B : Fin 1024) :
    k0_pay10 x0 aug (ix2 r B) = ∑ x : Fin 1024, (FloatOps.sitofp .f32 (BitVec.setWidth 32
      (IntOp.cmpi .eq (BitVec.ofNat 32 x.val) (x0 (ix4 (0 : Fin 1) (0 : Fin 1) (0 : Fin 1) r)))) : Ideal .f32) * aug (ix2 x B) := by
  pointwise [k0_pay10, k0_pay9]

/-- The smoothed labels of a row, entry by entry. -/
theorem labels_open (r : Fin 2048) (b : Fin 1000) :
    k0_pay12 x0 aug (ix2 r b) = k0_pay10 x0 aug (ix2 r (⟨b.val, by omega⟩ : Fin 1024))
      + Scalar.select (IntOp.cmpi .eq (BitVec.ofNat 32 b.val) (x0 (ix4 (0 : Fin 1) (0 : Fin 1) (0 : Fin 1) r)))
          (Ideal.ofBits .f32 1063675494#32 - k0_pay10 x0 aug (ix2 r (⟨1001, by omega⟩ : Fin 1024))) 0 := by
  pointwise [k0_pay12, k0_pay11, k0_pay9]

/-- The normalisers' part of a half. -/
theorem norms_open (i : S1x1x1.Idx) :
    k0_pay13 x2 x0 aug i = ∑ r : Fin 2048, ∑ _u : Fin 1,
      (Finset.fold max (Ideal.ofBits .f32 4286578688#32) (fun j : Fin 1000 => x2 (ix3 (0 : Fin 1) r j)) Finset.univ
        + Ideal.log (∑ j : Fin 1000, Ideal.exp (x2 (ix3 (0 : Fin 1) r j)
            - Finset.fold max (Ideal.ofBits .f32 4286578688#32) (fun j : Fin 1000 => x2 (ix3 (0 : Fin 1) r j)) Finset.univ)))
      * (k0_pay10 x0 aug (ix2 r (⟨1000, by omega⟩ : Fin 1024))
          + (Ideal.ofBits .f32 1063675494#32 - k0_pay10 x0 aug (ix2 r (⟨1001, by omega⟩ : Fin 1024)))) := by
  pointwise [k0_pay13, k0_pay8, k0_pay11]

/-- A half's total: the normalisers' part less the labels against the rows. -/
theorem half_open (v36 : FVec Ideal S2048x1000 .f32) (v40 : FVec Ideal S1x1x1 .f32) :
    k0_pay14 (k0_pay8 x2) v36 v40
      = v40 (ix3 (0 : Fin 1) (0 : Fin 1) (0 : Fin 1)) - ∑ r : Fin 2048, ∑ j : Fin 1000, v36 (ix2 r j) * x2 (ix3 (0 : Fin 1) r j) := by
  pointwise [k0_pay14, k0_pay8]

end half

/-- The second half's normalisers' part is the first half's, at the second half's block. -/
theorem norms_second (x1 : Vec Ideal S1x1x1x2048 .i32) (x3 : Vec Ideal S1x2048x1000 .f32) (aug : Vec Ideal S1024x1024 .bf16) :
    shapeCast S1x1x1 (k0_pay20 x3 x1 aug) shapeCasts_S1_S1x1x1 = k0_pay13 x3 x1 aug := rfl

/-- The new sum: the old one plus the two halves' totals over the number of rows. -/
theorem sum_open (v47 : Ideal .f32) (v49 v81 : FVec Ideal S2048x1000 .f32) (v84 : FVec Ideal S1 .f32) (v98 : Vec Ideal S1x1 .f32) :
    k0_pay2 v47 v49 v81 v84 v98 (ix2 (0 : Fin 1) (0 : Fin 1))
      = v98 (ix2 (0 : Fin 1) (0 : Fin 1))
        + (v47 + k0_pay14 v49 v81 (shapeCast S1x1x1 v84 shapeCasts_S1_S1x1x1)) * Ideal.ofBits .f32 947912704#32 := by
  pointwise [k0_pay2, k0_pay14]

end Cert.Proof
-- ==== Proof.Literals.lean ====
/- The float literals that the two programs and the precondition contain, as real numbers. -/
module

public import Idealize.ShloMosaic.Lib.Pointwise

@[expose] public section

noncomputable section

namespace Cert.Proof

open Idealize.ShloMosaic

/-- The smoothing factor as the programs round it (near 0.1). -/
def smooth : ℝ := 13421773 / 134217728
/-- The confidence as the programs round it (near 0.9). -/
def conf : ℝ := 15099494 / 16777216

/-- The literal near 0.1 is `smooth`. -/
theorem lit_smooth : Ideal.ofBits .f32 0x3DCCCCCD#32 = (smooth : EReal) := by
  unfold smooth
  simp [Ideal.ofBits, Ideal.ieee, -EReal.coe_mul]; norm_num
/-- The literal near 0.9 is `conf`. -/
theorem lit_conf : Ideal.ofBits .f32 0x3F666666#32 = (conf : EReal) := by
  unfold conf
  simp [Ideal.ofBits, Ideal.ieee, -EReal.coe_mul]; norm_num
/-- The kernel's factor is one over the number of rows. -/
theorem lit_inv_rows : Ideal.ofBits .f32 0x38800000#32 = ((1 / 16384 : ℝ) : EReal) := by
  simp [Ideal.ofBits, Ideal.ieee, -EReal.coe_mul]; norm_num
/-- The reference's divisor is the number of rows. -/
theorem lit_rows : Ideal.ofBits .f32 0x46800000#32 = ((16384 : ℝ) : EReal) := by
  simp [Ideal.ofBits, Ideal.ieee, -EReal.coe_mul]; norm_num
/-- The literal that starts a maximum is the least extended real. -/
theorem lit_bot : Ideal.ofBits .f32 0xFF800000#32 = ⊥ := by
  simp [Ideal.ofBits, Ideal.ieee]
/-- The bound of the finiteness test is the greatest extended real. -/
theorem lit_top : Ideal.ofBits .f32 0x7F800000#32 = ⊤ := by
  simp [Ideal.ofBits, Ideal.ieee]

end Cert.Proof

end
-- ==== Proof.RowMath.lean ====
/- The mathematics of one row and of the mean over the rows, over the real numbers, and the reading of finite
   extended reals as real numbers. No program is mentioned here. -/
module

public import proofs.«01_k».proof.Proof.Literals

@[expose] public section

noncomputable section

namespace Cert.Proof

open Idealize.ShloMosaic

/-- A sum of real numbers read in the extended reals is the sum read there term by term. -/
theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The greatest of the 1000 numbers of a row of finite numbers is a finite number. -/
theorem exists_rowMax (f : Fin 1000 → ℝ) :
    ∃ M : ℝ, Finset.fold max (⊥ : EReal) (fun j => (f j : EReal)) Finset.univ = (M : EReal) := by
  obtain ⟨i, -, hi⟩ := Finset.exists_mem_eq_sup (Finset.univ : Finset (Fin 1000)) ⟨0, Finset.mem_univ _⟩
    (fun j => (f j : EReal))
  exact ⟨f i, hi⟩

/-- The logarithm of the sum of the exponentials of a row. -/
def lse (f : Fin 1000 → ℝ) : ℝ := Real.log (∑ j, Real.exp (f j))

/-- Shifting a row by `M` before the exponentials and adding `M` back after the logarithm changes nothing. -/
theorem shifted_lse (f : Fin 1000 → ℝ) (M : ℝ) : M + Real.log (∑ j, Real.exp (f j - M)) = lse f := by
  have hpos : 0 < ∑ j, Real.exp (f j) := Finset.sum_pos (fun j _ => Real.exp_pos _) ⟨0, Finset.mem_univ _⟩
  have h : ∑ j, Real.exp (f j - M) = Real.exp (-M) * ∑ j, Real.exp (f j) := by
    rw [Finset.mul_sum]
    exact Finset.sum_congr rfl fun j _ => by rw [← Real.exp_add]; congr 1; ring
  rw [h, Real.log_mul (Real.exp_pos _).ne' hpos.ne', Real.log_exp, lse]
  ring

/-- The logarithm of the shifted sum of exponentials, taken over the extended reals, is the real one. -/
theorem log_shifted (f : Fin 1000 → ℝ) (M : ℝ) :
    Ideal.log (∑ j, Ideal.exp ((f j : EReal) - (M : EReal))) = ((lse f - M : ℝ) : EReal) := by
  have hpos : 0 < ∑ j, Real.exp (f j - M) :=
    Finset.sum_pos (fun j _ => Real.exp_pos _) ⟨0, Finset.mem_univ _⟩
  have h : ∑ j, Ideal.exp ((f j : EReal) - (M : EReal)) = ((∑ j, Real.exp (f j - M) : ℝ) : EReal) := by
    rw [← coe_sum]
    exact Finset.sum_congr rfl fun j _ => by rw [← EReal.coe_sub, Ideal.exp_coe]
  rw [h, Ideal.log_coe, if_neg (not_le.mpr hpos), ← shifted_lse f M, add_sub_cancel_left]

/-- The smoothed label of class `j` in the row whose target is `t` : the confidence at the target, the scaled
    similarity elsewhere. -/
def label (s : Fin 1000 → Fin 1000 → ℝ) (t j : Fin 1000) : ℝ := if j = t then conf else s t j * smooth

/-- The loss of one row : the cross entropy of the smoothed labels and the log-softmax of the logits. -/
def rowLoss (s : Fin 1000 → Fin 1000 → ℝ) (t : Fin 1000) (p : Fin 1000 → ℝ) : ℝ :=
  ∑ j, -label s t j * (p j - lse p)

/-- What a table row must give the kernel's correction: entry `j`, plus at the target what lacks to the confidence. -/
theorem label_eq (s : Fin 1000 → Fin 1000 → ℝ) (t j : Fin 1000) :
    s t j * smooth + (if j = t then conf - s t t * smooth else 0) = label s t j := by
  unfold label
  by_cases h : j = t
  · subst h; simp
  · simp [h]

/-- The kernel's form of the loss of a row: the log-sum-exp times the labels' total, less the labels against the
    logits. -/
theorem rowLoss_eq (s : Fin 1000 → Fin 1000 → ℝ) (t : Fin 1000) (p : Fin 1000 → ℝ) :
    lse p * ((∑ j, s t j * smooth) + (conf - s t t * smooth)) - ∑ j, label s t j * p j = rowLoss s t p := by
  have h : (∑ j, s t j * smooth) + (conf - s t t * smooth) = ∑ j, label s t j := by
    simp only [← label_eq, Finset.sum_add_distrib, Finset.sum_ite_eq', Finset.mem_univ, if_true]
  rw [h, rowLoss, Finset.mul_sum, ← Finset.sum_sub_distrib]
  exact Finset.sum_congr rfl fun j _ => by ring

end Cert.Proof

end
-- ==== Proof.Block.lean ====
module
public import proofs.«01_k».proof.Proof.Opened
public import proofs.«01_k».proof.Proof.RowMath
public import proofs.«01_k».proof.Proof.Literals

/-!
One half of a block, as real numbers: where the rows are real, the labels name classes and the label table holds the
scaled similarities, the half contributes the sum of its rows' losses.
-/

@[expose] public section
set_option maxRecDepth 16384
noncomputable section
namespace Cert.Proof
open Idealize.ShloMosaic Idealize.ShloMosaic.TcCoe Idealize.SL.Sem
open Cert.KernelIdeal Cert.KernelIdeal.Gen

/-- The label table of the similarities `s`: each row scaled, then its sum, then its diagonal entry. -/
structure IsTable (s : Fin 1000 → Fin 1000 → ℝ) (aug : Vec Ideal S1024x1024 .bf16) : Prop where
  wide : ∀ (a b : Fin 1000) (A B : Fin 1024), A.val = a.val → B.val = b.val → aug (ix2 A B) = ((s a b * smooth : ℝ) : EReal)
  sum : ∀ (a : Fin 1000) (A B : Fin 1024), A.val = a.val → B.val = 1000 → aug (ix2 A B) = ((∑ j, s a j * smooth : ℝ) : EReal)
  diag : ∀ (a : Fin 1000) (A B : Fin 1024), A.val = a.val → B.val = 1001 → aug (ix2 A B) = ((s a a * smooth : ℝ) : EReal)

/-- The table the first point builds from the scaled similarities. -/
theorem isTable_table (s : Fin 1000 → Fin 1000 → ℝ) (x4 : Vec Ideal S1000x1000 .bf16)
    (h : ∀ a b : Fin 1000, x4 (ix2 a b) = ((s a b * smooth : ℝ) : EReal)) : IsTable s (table x4) where
  wide a b A B hA hB := (table_wide x4 a b A B hA hB).trans (h a b)
  sum a A B hA hB := by
    rw [table_sum x4 a A B hA hB, ← coe_sum]
    exact Finset.sum_congr rfl fun j _ => h a j
  diag a A B hA hB := (table_diag x4 a A B hA hB).trans (h a a)

section half
variable (s : Fin 1000 → Fin 1000 → ℝ) (T : Fin 2048 → Fin 1000) (P : Fin 2048 → Fin 1000 → ℝ)
  (x0 : Vec Ideal S1x1x1x2048 .i32) (x2 : Vec Ideal S1x2048x1000 .f32) (aug : Vec Ideal S1024x1024 .bf16)

/-- The one-hot product picks the table row of the label. -/
theorem pick (hT : ∀ r : Fin 2048, x0 (ix4 (0 : Fin 1) (0 : Fin 1) (0 : Fin 1) r) = BitVec.ofNat 32 (T r).val)
    (r : Fin 2048) (B : Fin 1024) :
    k0_pay10 x0 aug (ix2 r B) = aug (ix2 (⟨(T r).val, by omega⟩ : Fin 1024) B) := by
  rw [pick_open, Finset.sum_eq_single (⟨(T r).val, by omega⟩ : Fin 1024)]
  · rw [hT, hot_ofNat (by omega) (by omega), if_pos rfl]
    exact one_mul _
  · intro x _ hx
    rw [hT, hot_ofNat (by omega) (by omega), if_neg fun e => hx (Fin.ext e)]
    exact zero_mul _
  · intro h; exact absurd (Finset.mem_univ _) h

/-- A row's labels: the confidence at the target, the scaled similarity elsewhere. -/
theorem labels (h : IsTable s aug)
    (hT : ∀ r : Fin 2048, x0 (ix4 (0 : Fin 1) (0 : Fin 1) (0 : Fin 1) r) = BitVec.ofNat 32 (T r).val) (r : Fin 2048) (b : Fin 1000) :
    k0_pay12 x0 aug (ix2 r b) = (label s (T r) b : EReal) := by
  rw [labels_open, pick T x0 aug hT, pick T x0 aug hT, hT, select_ofNat (by omega) (by omega),
    h.wide (T r) b _ _ rfl rfl, h.diag (T r) _ _ rfl rfl, ← label_eq, EReal.coe_add]
  congr 1
  by_cases e : b = T r
  · rw [if_pos (congrArg Fin.val e), if_pos e, show (1063675494#32) = 0x3F666666#32 from rfl, lit_conf, EReal.coe_sub]
  · rw [if_neg fun e' => e (Fin.ext e'), if_neg e]; rfl

/-- The normalisers' part of a half. -/
theorem norms (h : IsTable s aug)
    (hT : ∀ r : Fin 2048, x0 (ix4 (0 : Fin 1) (0 : Fin 1) (0 : Fin 1) r) = BitVec.ofNat 32 (T r).val)
    (hP : ∀ (r : Fin 2048) (j : Fin 1000), x2 (ix3 (0 : Fin 1) r j) = (P r j : EReal)) (i : S1x1x1.Idx) :
    k0_pay13 x2 x0 aug i
      = ((∑ r, lse (P r) * ((∑ j, s (T r) j * smooth) + (conf - s (T r) (T r) * smooth)) : ℝ) : EReal) := by
  rw [norms_open, ← coe_sum]
  refine Finset.sum_congr rfl fun r _ => ?_
  rw [Finset.sum_const, Finset.card_univ, Fintype.card_fin, one_smul]
  simp only [hP]
  rw [show (4286578688#32) = 0xFF800000#32 from rfl, lit_bot]
  obtain ⟨M, hM⟩ := exists_rowMax (P r)
  rw [hM, log_shifted, pick T x0 aug hT, pick T x0 aug hT, h.sum (T r) _ _ rfl rfl, h.diag (T r) _ _ rfl rfl,
    show (1063675494#32) = 0x3F666666#32 from rfl, lit_conf, ← EReal.coe_sub, ← EReal.coe_add, ← EReal.coe_add, ← EReal.coe_mul,
    add_sub_cancel]

/-- A half's total is the sum of its rows' losses. -/
theorem half (h : IsTable s aug)
    (hT : ∀ r : Fin 2048, x0 (ix4 (0 : Fin 1) (0 : Fin 1) (0 : Fin 1) r) = BitVec.ofNat 32 (T r).val)
    (hP : ∀ (r : Fin 2048) (j : Fin 1000), x2 (ix3 (0 : Fin 1) r j) = (P r j : EReal)) :
    k0_pay14 (k0_pay8 x2) (k0_pay12 x0 aug) (k0_pay13 x2 x0 aug) = ((∑ r, rowLoss s (T r) (P r) : ℝ) : EReal) := by
  have e : ∑ r : Fin 2048, ∑ j : Fin 1000, k0_pay12 x0 aug (ix2 r j) * x2 (ix3 (0 : Fin 1) r j)
      = ((∑ r, ∑ j, label s (T r) j * P r j : ℝ) : EReal) := by
    rw [← coe_sum]
    refine Finset.sum_congr rfl fun r _ => ?_
    rw [← coe_sum]
    refine Finset.sum_congr rfl fun j _ => ?_
    rw [labels s T x0 aug h hT, hP, EReal.coe_mul]
  rw [half_open, norms s T P x0 x2 aug h hT hP, e, ← EReal.coe_sub, ← Finset.sum_sub_distrib]
  simp only [rowLoss_eq]

end half

/-- One point adds its two halves' losses over the number of rows. -/
theorem step_eq (s : Fin 1000 → Fin 1000 → ℝ) (T T' : Fin 2048 → Fin 1000) (P P' : Fin 2048 → Fin 1000 → ℝ)
    (x0 x1 : Vec Ideal S1x1x1x2048 .i32) (x2 x3 : Vec Ideal S1x2048x1000 .f32) (aug : Vec Ideal S1024x1024 .bf16)
    (acc : Vec Ideal S1x1 .f32) (a : ℝ) (ha : acc (ix2 (0 : Fin 1) (0 : Fin 1)) = (a : EReal)) (h : IsTable s aug)
    (hT : ∀ r : Fin 2048, x0 (ix4 (0 : Fin 1) (0 : Fin 1) (0 : Fin 1) r) = BitVec.ofNat 32 (T r).val)
    (hT' : ∀ r : Fin 2048, x1 (ix4 (0 : Fin 1) (0 : Fin 1) (0 : Fin 1) r) = BitVec.ofNat 32 (T' r).val)
    (hP : ∀ (r : Fin 2048) (j : Fin 1000), x2 (ix3 (0 : Fin 1) r j) = (P r j : EReal))
    (hP' : ∀ (r : Fin 2048) (j : Fin 1000), x3 (ix3 (0 : Fin 1) r j) = (P' r j : EReal)) :
    step x0 x1 x2 x3 aug acc (ix2 (0 : Fin 1) (0 : Fin 1))
      = ((a + ((∑ r, rowLoss s (T r) (P r)) + ∑ r, rowLoss s (T' r) (P' r)) * (1 / 16384) : ℝ) : EReal) := by
  unfold step
  rw [sum_open, norms_second, half s T P x0 x2 aug h hT hP]
  have e := half s T' P' x1 x3 aug h hT' hP'
  rw [show k0_pay14 (k0_pay15 x3) (k0_pay19 x1 aug) (k0_pay13 x3 x1 aug) = _ from e, ha,
    show (947912704#32) = 0x38800000#32 from rfl, lit_inv_rows, ← EReal.coe_add, ← EReal.coe_mul, ← EReal.coe_add]

end Cert.Proof
-- ==== Proof.Reads.lean ====
module
public import proofs.«01_k».proof.Proof.Gen.KernelIdeal.Frame
public import Idealize.ShloMosaic.Lib.Pipeline.ValueKit
public import Idealize.ShloMosaic.Lib.Pointwise
public import Idealize.ShloMosaic.Lib.Tactic

/-!
Where each grid point's blocks lie in the argument arrays.
-/

@[expose] public section
set_option maxRecDepth 16384
noncomputable section
namespace Cert.Proof
open Idealize.ShloMosaic Idealize.ShloMosaic.TcCoe Idealize.SL.Sem
open Cert.KernelIdeal Cert.KernelIdeal.Gen

/-- Where each window's block lies at each point. -/
theorem idx : ∀ t : Fin cfg0.N, win0_0.index t = ![0, t.val, 0, 0] ∧ win0_1.index t = ![1, t.val, 0, 0]
    ∧ win0_2.index t = ![0, t.val, 0] ∧ win0_3.index t = ![1, t.val, 0] ∧ win0_4.index t = ![0, 0] ∧ win0_5.index t = ![0, 0] :=
  (by decide +kernel : ∀ t : Fin grid0.N, _)

theorem lt_points (t : Fin cfg0.N) : t.val < 4 := lt_of_lt_of_eq t.isLt N_0

variable (m : (ℓ : Loc nD τ sig) → Buf (Elt Ideal) ℓ)

/-- The labels as the region finds them: reshaped. -/
theorem V_labels (c : Dev nD) : V m c main_call0_v0
    = shapeCast S2x4x1x2048 (m ((c : Thread nD τ).loc main_arg1) : Vec Ideal S16384 .i32) shapeCasts_S16384_S2x4x1x2048 := by
  simp only [V, V0, List.flatten_cons, List.flatten_nil, List.append_nil]
  entry_read
  rfl

/-- The rows as the region finds them: reshaped. -/
theorem V_rows (c : Dev nD) : V m c main_call0_v1
    = shapeCast S2x8192x1000 (m ((c : Thread nD τ).loc main_arg0) : Vec Ideal S16384x1000 .f32) shapeCasts_S16384x1000_S2x8192x1000 := by
  simp only [V, V0, List.flatten_cons, List.flatten_nil, List.append_nil]
  entry_read
  rfl

/-- The similarities as the region finds them: scaled. -/
theorem V_table (c : Dev nD) : V m c main_call0_v4
    = truncf (F := Ideal) .bf16 (mulf (m ((c : Thread nD τ).loc main_arg2) : FVec Ideal S1000x1000 .f32)
        (broadcastInDim S1000x1000 ![] bcast_S_S1000x1000 (constant S_ .f32 0x3DCCCCCD#32))) bitsLt_bf16_f32 := by
  simp only [V, V0, List.flatten_cons, List.flatten_nil, List.append_nil]
  entry_read
  rfl

/-- The reshaped labels, entry by entry. -/
theorem labels_reshaped (X : Vec Ideal S16384 .i32) (h : Fin 2) (i : Fin 4) (r : Fin 2048) :
    shapeCast S2x4x1x2048 X shapeCasts_S16384_S2x4x1x2048 (ix4 h i (0 : Fin 1) r)
      = X (ix1 (⟨h.val * 8192 + i.val * 2048 + r.val, by omega⟩ : Fin 16384)) := by
  pointwise
  blk_ext []

/-- The reshaped rows, entry by entry. -/
theorem rows_reshaped (X : Vec Ideal S16384x1000 .f32) (h : Fin 2) (r : Fin 8192) (j : Fin 1000) :
    shapeCast S2x8192x1000 X shapeCasts_S16384x1000_S2x8192x1000 (ix3 h r j)
      = X (ix2 (⟨h.val * 8192 + r.val, by omega⟩ : Fin 16384) j) := by
  pointwise
  blk_ext []

/-- The first half's labels at a point. -/
theorem read_labels_first (c : Dev nD) (t : Fin cfg0.N) (r : Fin 2048) :
    (iblk m c 0 t : Vec Ideal S1x1x1x2048 .i32) (ix4 (0 : Fin 1) (0 : Fin 1) (0 : Fin 1) r)
      = (m ((c : Thread nD τ).loc main_arg1) : Vec Ideal S16384 .i32)
          (ix1 (⟨t.val * 2048 + r.val, by have := lt_points t; omega⟩ : Fin 16384)) := by
  have e : (win0_0.blk t).view.emb (ix4 (0 : Fin 1) (0 : Fin 1) (0 : Fin 1) r)
      = ix4 (0 : Fin 2) (⟨t.val, lt_points t⟩ : Fin 4) (0 : Fin 1) r := by
    blk_ext [idx t]
  show V m c main_call0_v0 ((win0_0.blk t).view.emb (ix4 (0 : Fin 1) (0 : Fin 1) (0 : Fin 1) r)) = _
  rw [e, V_labels, labels_reshaped]
  blk_ext [idx t]

/-- The second half's labels at a point. -/
theorem read_labels_second (c : Dev nD) (t : Fin cfg0.N) (r : Fin 2048) :
    (iblk m c 1 t : Vec Ideal S1x1x1x2048 .i32) (ix4 (0 : Fin 1) (0 : Fin 1) (0 : Fin 1) r)
      = (m ((c : Thread nD τ).loc main_arg1) : Vec Ideal S16384 .i32)
          (ix1 (⟨8192 + t.val * 2048 + r.val, by have := lt_points t; omega⟩ : Fin 16384)) := by
  have e : (win0_1.blk t).view.emb (ix4 (0 : Fin 1) (0 : Fin 1) (0 : Fin 1) r)
      = ix4 (1 : Fin 2) (⟨t.val, lt_points t⟩ : Fin 4) (0 : Fin 1) r := by
    blk_ext [idx t]
  show V m c main_call0_v0 ((win0_1.blk t).view.emb (ix4 (0 : Fin 1) (0 : Fin 1) (0 : Fin 1) r)) = _
  rw [e, V_labels, labels_reshaped]
  blk_ext [idx t]

/-- The first half's rows at a point. -/
theorem read_rows_first (c : Dev nD) (t : Fin cfg0.N) (r : Fin 2048) (j : Fin 1000) :
    (iblk m c 2 t : Vec Ideal S1x2048x1000 .f32) (ix3 (0 : Fin 1) r j)
      = (m ((c : Thread nD τ).loc main_arg0) : Vec Ideal S16384x1000 .f32)
          (ix2 (⟨t.val * 2048 + r.val, by have := lt_points t; omega⟩ : Fin 16384) j) := by
  have e : (win0_2.blk t).view.emb (ix3 (0 : Fin 1) r j)
      = ix3 (0 : Fin 2) (⟨t.val * 2048 + r.val, by have := lt_points t; omega⟩ : Fin 8192) j := by
    blk_ext [idx t]
  show V m c main_call0_v1 ((win0_2.blk t).view.emb (ix3 (0 : Fin 1) r j)) = _
  rw [e, V_rows, rows_reshaped]
  blk_ext [idx t]

/-- The second half's rows at a point. -/
theorem read_rows_second (c : Dev nD) (t : Fin cfg0.N) (r : Fin 2048) (j : Fin 1000) :
    (iblk m c 3 t : Vec Ideal S1x2048x1000 .f32) (ix3 (0 : Fin 1) r j)
      = (m ((c : Thread nD τ).loc main_arg0) : Vec Ideal S16384x1000 .f32)
          (ix2 (⟨8192 + t.val * 2048 + r.val, by have := lt_points t; omega⟩ : Fin 16384) j) := by
  have e : (win0_3.blk t).view.emb (ix3 (0 : Fin 1) r j)
      = ix3 (1 : Fin 2) (⟨t.val * 2048 + r.val, by have := lt_points t; omega⟩ : Fin 8192) j := by
    blk_ext [idx t]
  show V m c main_call0_v1 ((win0_3.blk t).view.emb (ix3 (0 : Fin 1) r j)) = _
  rw [e, V_rows, rows_reshaped]
  blk_ext [idx t]

/-- The scaled similarities, whole at every point. -/
theorem read_table (c : Dev nD) (t : Fin cfg0.N) (a b : Fin 1000) :
    (iblk m c 4 t : Vec Ideal S1000x1000 .bf16) (ix2 a b)
      = (show Ideal .f32 from (m ((c : Thread nD τ).loc main_arg2) : Vec Ideal S1000x1000 .f32) (ix2 a b))
        * Ideal.ofBits .f32 0x3DCCCCCD#32 := by
  have e : (win0_4.blk t).view.emb (ix2 a b) = ix2 a b := by
    blk_ext [idx t]
  show V m c main_call0_v4 ((win0_4.blk t).view.emb (ix2 a b)) = _
  rw [e, V_table]
  pointwise

end Cert.Proof
-- ==== Proof.Data.lean ====
module
public import proofs.«01_k».proof.Pre_finite_in_range
public import proofs.«01_k».proof.Proof.Literals

/-!
What the precondition says of the three arrays: the logits and the similarities are real numbers and every label names
one of the thousand classes.
-/

@[expose] public section
set_option maxRecDepth 16384
noncomputable section
namespace Cert.Proof
open Idealize.ShloMosaic

/-- The three arrays, read as real logits, class labels and real similarities. -/
structure IsData (x0 : FVec Ideal (⟨2, ![16384, 1000]⟩ : Shape) .f32) (x1 : IVec (⟨1, ![16384]⟩ : Shape) 32)
    (x2 : FVec Ideal (⟨2, ![1000, 1000]⟩ : Shape) .f32)
    (P : Fin 16384 → Fin 1000 → ℝ) (T : Fin 16384 → Fin 1000) (s : Fin 1000 → Fin 1000 → ℝ) : Prop where
  rows : ∀ r j, x0 (ix2 r j) = (P r j : EReal)
  labels : ∀ r, x1 (ix1 r) = BitVec.ofNat 32 (T r).val
  sims : ∀ a b, x2 (ix2 a b) = (s a b : EReal)

/-- The side conditions of the precondition's function. -/
theorem preFacts : Cert.Pre_finite_in_range.Facts where
  bcast_S_S16384x1000 := by decide
  bcast_S_S16384 := by decide
  bcast_S_S1000x1000 := by decide

/-- A number whose absolute value is below infinity is real. -/
theorem real_of_abs_lt {x : Ideal .f32}
    (h : FloatOps.cmpf .olt (FloatOps.hostAbsf x) (Ideal.ofBits .f32 0x7F800000#32) = 1#1) : ∃ a : ℝ, x = (a : EReal) := by
  rw [show (0x7F800000#32 : BitVec 32) = 0x7F800000#32 from rfl, lit_top] at h
  have h' : BitVec.ofBool (decide (max (x : EReal) (-x) < ⊤)) = 1#1 := h
  have hd : max (x : EReal) (-x) < ⊤ := by
    by_contra hn
    rw [decide_eq_false hn] at h'
    exact absurd h' (by decide)
  have hx : (x : EReal) ≠ ⊤ := fun e => by rw [e] at hd; simp at hd
  have hx' : (x : EReal) ≠ ⊥ := fun e => by rw [e] at hd; simp at hd
  exact ⟨EReal.toReal x, (EReal.coe_toReal hx hx').symm⟩

/-- A word that is at least zero and below a thousand is the word of a class. -/
theorem class_of_range {b : BitVec 32} (h : IntOp.andi (IntOp.cmpi .sge b 0#32) (IntOp.cmpi .slt b 1000#32) = 1#1) :
    ∃ t : Fin 1000, b = BitVec.ofNat 32 t.val := by
  have h' : BitVec.ofBool ((0#32).sle b) &&& BitVec.ofBool (b.slt 1000#32) = 1#1 := h
  have ha : (0#32).sle b = true := by
    cases e : (0#32).sle b
    · rw [e] at h'; cases e' : b.slt 1000#32 <;> rw [e'] at h' <;> exact absurd h' (by decide)
    · rfl
  have hb : b.slt 1000#32 = true := by
    cases e : b.slt 1000#32
    · rw [e, ha] at h'; exact absurd h' (by decide)
    · rfl
  rw [BitVec.sle_iff_toInt_le] at ha
  rw [BitVec.slt_iff_toInt_lt] at hb
  have e0 : (0#32).toInt = 0 := by decide
  have e1 : (1000#32).toInt = 1000 := by decide
  rw [e0] at ha
  rw [e1] at hb
  have hn : b.toInt = b.toNat := by
    rw [BitVec.toInt_eq_toNat_cond] at ha ⊢
    split
    · rfl
    · rename_i hc
      have := b.isLt
      rw [if_neg hc] at ha
      omega
  refine ⟨⟨b.toNat, by omega⟩, ?_⟩
  exact BitVec.eq_of_toNat_eq (by simp)

/-- Under the precondition the arrays are data. -/
theorem data_of_pre [Cert.Pre_finite_in_range.Facts] (x0 : FVec Ideal (⟨2, ![16384, 1000]⟩ : Shape) .f32) (x1 : IVec (⟨1, ![16384]⟩ : Shape) 32)
    (x2 : FVec Ideal (⟨2, ![1000, 1000]⟩ : Shape) .f32)
    (h0 : (Cert.Pre_finite_in_range.fn (F := Ideal) x0 x1 x2).1 = fun _ => 1#1)
    (h1 : (Cert.Pre_finite_in_range.fn (F := Ideal) x0 x1 x2).2.1 = fun _ => 1#1)
    (h2 : (Cert.Pre_finite_in_range.fn (F := Ideal) x0 x1 x2).2.2 = fun _ => 1#1) :
    ∃ P T s, IsData x0 x1 x2 P T s := by
  have e0 : ∀ r j, ∃ a : ℝ, x0 (ix2 r j) = (a : EReal) := fun r j => real_of_abs_lt (congrFun h0 (ix2 r j))
  have e1 : ∀ r, ∃ t : Fin 1000, x1 (ix1 r) = BitVec.ofNat 32 t.val := fun r => class_of_range (congrFun h1 (ix1 r))
  have e2 : ∀ a b, ∃ v : ℝ, x2 (ix2 a b) = (v : EReal) := fun a b => real_of_abs_lt (congrFun h2 (ix2 a b))
  choose P hP using e0
  choose T hT using e1
  choose s hs using e2
  exact ⟨P, T, s, hP, hT, hs⟩

end Cert.Proof
-- ==== Proof.Total.lean ====
module
public import proofs.«01_k».proof.Proof.Block
public import proofs.«01_k».proof.Proof.Reads
public import proofs.«01_k».proof.Proof.Data

/-!
The running sum after each grid point, and after the last one: the mean of the rows' losses.
-/

@[expose] public section
set_option maxRecDepth 16384
noncomputable section
namespace Cert.Proof
open Idealize.ShloMosaic Idealize.ShloMosaic.TcCoe Idealize.SL.Sem
open Cert.KernelIdeal Cert.KernelIdeal.Gen

/-- Row number `n`. -/
def rowAt (n : ℕ) : Fin 16384 := ⟨n % 16384, Nat.mod_lt _ (by decide)⟩

section sums
variable (s : Fin 1000 → Fin 1000 → ℝ) (T : Fin 16384 → Fin 1000) (P : Fin 16384 → Fin 1000 → ℝ)

/-- The loss of row number `n`. -/
def lossAt (n : ℕ) : ℝ := rowLoss s (T (rowAt n)) (P (rowAt n))

/-- What point `k` adds: the losses of its two stretches of rows over the number of rows. -/
def pointLoss (k : ℕ) : ℝ :=
  ((∑ r : Fin 2048, lossAt s T P (k * 2048 + r.val)) + ∑ r : Fin 2048, lossAt s T P (8192 + k * 2048 + r.val)) * (1 / 16384)

/-- The mean of the rows' losses. -/
def meanLoss : ℝ := (∑ r : Fin 16384, rowLoss s (T r) (P r)) / 16384

/-- A sum over `n` stretches of `b` numbers, stretch by stretch. -/
theorem sum_stretches (g : ℕ → ℝ) (b : ℕ) : ∀ n : ℕ,
    ∑ x ∈ Finset.range (n * b), g x = ∑ k ∈ Finset.range n, ∑ r : Fin b, g (k * b + r.val)
  | 0 => by simp
  | n + 1 => by
    rw [Nat.succ_mul, Finset.sum_range_add, sum_stretches g b n, Finset.sum_range_succ,
      ← Finset.sum_range (fun x => g (n * b + x))]

/-- The four points' amounts add up to the mean. -/
theorem sum_points : ∑ k ∈ Finset.range 4, pointLoss s T P k = meanLoss s T P := by
  have h : ∑ r : Fin 16384, rowLoss s (T r) (P r) = ∑ x ∈ Finset.range (4 * 2048 + 4 * 2048), lossAt s T P x := by
    rw [Finset.sum_range (fun x => lossAt s T P x)]
    refine Finset.sum_congr rfl fun r _ => ?_
    have e : rowAt r.val = r := Fin.ext (Nat.mod_eq_of_lt r.isLt)
    rw [lossAt, e]
  unfold meanLoss pointLoss
  rw [h, Finset.sum_range_add, sum_stretches, sum_stretches (fun x => lossAt s T P (4 * 2048 + x)),
    ← Finset.sum_mul, Finset.sum_add_distrib, mul_one_div]
  simp only [show (4 * 2048 : ℕ) = 8192 from rfl, Nat.add_assoc]

end sums

variable (m : (ℓ : Loc nD τ sig) → Buf (Elt Ideal) ℓ)
variable (P : Fin 16384 → Fin 1000 → ℝ) (T : Fin 16384 → Fin 1000) (s : Fin 1000 → Fin 1000 → ℝ)

/-- The arrays of device `c`, read as data. -/
abbrev DataAt (c : Dev nD) : Prop :=
  IsData (m ((c : Thread nD τ).loc main_arg0)) (m ((c : Thread nD τ).loc main_arg1)) (m ((c : Thread nD τ).loc main_arg2)) P T s

variable {m P T s}

/-- Any point's step adds that point's amount. -/
theorem step_at (c : Dev nD) (D : DataAt m P T s c) (t : Fin cfg0.N) (aug : Vec Ideal S1024x1024 .bf16) (h : IsTable s aug)
    (acc : Vec Ideal S1x1 .f32) (a : ℝ) (ha : acc (ix2 (0 : Fin 1) (0 : Fin 1)) = (a : EReal)) :
    step (iblk m c 0 t) (iblk m c 1 t) (iblk m c 2 t) (iblk m c 3 t) aug acc (ix2 (0 : Fin 1) (0 : Fin 1))
      = ((a + pointLoss s T P t.val : ℝ) : EReal) := by
  have ht := lt_points t
  have e0 : ∀ r : Fin 2048, (⟨t.val * 2048 + r.val, by omega⟩ : Fin 16384) = rowAt (t.val * 2048 + r.val) :=
    fun r => Fin.ext (Nat.mod_eq_of_lt (by omega)).symm
  have e1 : ∀ r : Fin 2048, (⟨8192 + t.val * 2048 + r.val, by omega⟩ : Fin 16384) = rowAt (8192 + t.val * 2048 + r.val) :=
    fun r => Fin.ext (Nat.mod_eq_of_lt (by omega)).symm
  exact step_eq s (fun r => T (rowAt (t.val * 2048 + r.val))) (fun r => T (rowAt (8192 + t.val * 2048 + r.val)))
    (fun r => P (rowAt (t.val * 2048 + r.val))) (fun r => P (rowAt (8192 + t.val * 2048 + r.val))) _ _ _ _ aug acc a ha h
    (fun r => by rw [read_labels_first, e0]; exact D.labels _)
    (fun r => by rw [read_labels_second, e1]; exact D.labels _)
    (fun r j => by rw [read_rows_first, e0]; exact D.rows _ _)
    (fun r j => by rw [read_rows_second, e1]; exact D.rows _ _)

/-- The table the first point builds is the label table of the similarities. -/
theorem isTable_at (c : Dev nD) (D : DataAt m P T s c) (t : Fin cfg0.N) : IsTable s (table (iblk m c 4 t)) :=
  isTable_table s _ fun a b => by
    rw [read_table, lit_smooth, EReal.coe_mul]
    exact congrArg (· * _) (D.sims a b)

/-- After every point the scratch holds the label table and the sum holds the amounts of the points so far. -/
theorem outs_eq (c : Dev nD) (D : DataAt m P T s c) : ∀ (n : ℕ) (h : n < cfg0.N),
    IsTable s (outsAt0 m c n h).2
      ∧ (outsAt0 m c n h).1 (ix2 (0 : Fin 1) (0 : Fin 1)) = ((∑ k ∈ Finset.range (n + 1), pointLoss s T P k : ℝ) : EReal)
  | 0, h => by
    have hz : (k0_pay1 (F := Ideal)) (ix2 (0 : Fin 1) (0 : Fin 1)) = ((0 : ℝ) : EReal) := by
      rw [EReal.coe_zero]
      pointwise [k0_pay1]
    refine ⟨?_, ?_⟩
    · rw [table_A m c ⟨0, h⟩ rfl]; exact isTable_at c D _
    · rw [point_A m c ⟨0, h⟩ rfl, step_at c D _ _ (isTable_at c D _) _ 0 hz, zero_add, Finset.sum_range_one]
  | n + 1, h => by
    have hN : cfg0.N = 4 := N_0
    have hB : ¬(⟨n + 1, h⟩ : Fin cfg0.N).val % 4 = 0 := by dsimp only; omega
    obtain ⟨hT, hS⟩ := outs_eq c D n (Nat.lt_of_succ_lt h)
    refine ⟨?_, ?_⟩
    · rw [table_B m c ⟨n + 1, h⟩ hB]; exact hT
    · rw [point_B m c ⟨n + 1, h⟩ hB, Finset.sum_range_succ]
      exact step_at c D ⟨n + 1, h⟩ _ hT _ _ hS

/-- After the last point the sum is the mean of the rows' losses. -/
theorem outs_last (c : Dev nD) (D : DataAt m P T s c) (t : Fin cfg0.N) (h3 : t.val = 3) :
    (outsAt0 m c t.val t.isLt).1 (ix2 (0 : Fin 1) (0 : Fin 1)) = (meanLoss s T P : EReal) := by
  rw [(outs_eq c D t.val t.isLt).2, h3, sum_points]

end Cert.Proof
-- ==== Proof.KernelRun.lean ====
module
public import proofs.«01_k».proof.Proof.Total
public import Idealize.ShloMosaic.Lib.Claim

/-!
The kernel's run: its result is the mean of the rows' losses.
-/

@[expose] public section
set_option maxRecDepth 16384
noncomputable section
namespace Cert.Proof
open Idealize.ShloMosaic Idealize.ShloMosaic.TcCoe Idealize.SL.Sem
open Idealize.ShloMosaic.Pipeline (Dat)
open Cert.KernelIdeal Cert.KernelIdeal.Gen

variable {m : (ℓ : Loc nD τ sig) → Buf (Elt Ideal) ℓ} (g : Dev nD → PrngReg)
variable {P : Fin 16384 → Fin 1000 → ℝ} {T : Fin 16384 → Fin 1000} {s : Fin 1000 → Fin 1000 → ℝ}

/-- The array the pipeline writes ends at the mean. -/
theorem array_eq (c : Dev nD) (D : DataAt m P T s c) :
    (dats m 0 c).arrAt 5 cfg0.N = (fun _ => (meanLoss s T P : EReal) : Vec Ideal S1x1 .f32) := by
  refine (dats m 0 c).arrAt_eq_of_after_last 5 t0_3 (by decide +kernel) _ fun j => ?_
  blk_simp
  rw [after0_5]
  have hj : j = ix2 (0 : Fin 1) (0 : Fin 1) := by blk_ext []
  rw [hj]
  exact outs_last c D t0_3 rfl

/-- The result: the array's one entry. -/
theorem tail_eq (c : Dev nD) (D : DataAt m P T s c) :
    Pipeline.afterTail₀ cfgs (dats m) 0 (V0 m) [hostOps1] c main_v0 = (fun _ => (meanLoss s T P : EReal) : Vec Ideal S_ .f32) := by
  unfold Pipeline.afterTail₀
  simp only [List.flatten_cons, List.flatten_nil, List.append_nil]
  entry_read
  have e := ((dats m 0 c).withArrays_arrAt sharedIn0 (V0 m c) (A_eq m c) 5).trans (array_eq c D)
  exact congrArg (fun X => shapeCast S_ X shapeCasts_S1x1_S_) e

/-- The kernel runs to the mean, on every device to that of the device's own arguments. -/
theorem kernel_run {P : Dev nD → Fin 16384 → Fin 1000 → ℝ} {T : Dev nD → Fin 16384 → Fin 1000}
    {s : Dev nD → Fin 1000 → Fin 1000 → ℝ} (D : ∀ c, DataAt m (P c) (T c) (s c) c) :
    θ_run defs (onTc (τ := τ) (main (F := Ideal))) ⟨m, fun _ => 0, g⟩ (fun r => ∀ c : Dev nD,
      r.2.mem ((c.tc : Thread nD τ).loc main_v0) = (fun _ => (meanLoss (s c) (T c) (P c) : EReal) : Vec Ideal S_ .f32)) :=
  (θ_run defs _ _).mono (fun _ h c =>
    ((h c).2 main_v0 (Pipeline.mem_restRefs_of main_v0 (by decide) (by decide))).trans (tail_eq c (D c))) (run_main m g)

end Cert.Proof
-- ==== Proof.RefLogits.lean ====
module
public import proofs.«01_k».proof.Proof.Gen.ReferenceIdeal.Read
public import proofs.«01_k».proof.Proof.Data
public import proofs.«01_k».proof.Proof.RowMath
public import Idealize.ShloMosaic.Lib.Pointwise

/-!
The reference's log-softmax, read at an entry.
-/

@[expose] public section
set_option maxRecDepth 16384
noncomputable section
namespace Cert.Proof
open Idealize.ShloMosaic Cert.ReferenceIdeal Cert.ReferenceIdeal.Gen Cert.ReferenceIdeal.Read

variable {x0 : FVec Ideal (⟨2, ![16384, 1000]⟩ : Shape) .f32} {x1 : IVec (⟨1, ![16384]⟩ : Shape) 32}
  {x2 : FVec Ideal (⟨2, ![1000, 1000]⟩ : Shape) .f32}
  {P : Fin 16384 → Fin 1000 → ℝ} {T : Fin 16384 → Fin 1000} {s : Fin 1000 → Fin 1000 → ℝ}

/-- The maximum over a row of an array, with a starting value. -/
theorem row_fold (x : FVec Ideal S16384x1000 .f32) (c : FVec Ideal S_ .f32) (r : Fin 16384) :
    Host.reduce FloatOps.maximumf x c reducesTo_S16384x1000_S16384_d1 h_S_ (ix1 r)
      = Finset.fold max (c (Shape.Idx.first h_S_)) (fun j : Fin 1000 => x (ix2 r j)) Finset.univ := by
  pointwise

/-- The greatest logit of a row is a real number. -/
theorem rowMax_real (D : IsData x0 x1 x2 P T s) (r : Fin 16384) :
    ∃ M : ℝ, val_main_call0_v2 (F := Ideal) x0 (ix1 r) = (M : EReal) := by
  obtain ⟨M, hM⟩ := exists_rowMax (P r)
  refine ⟨M, ?_⟩
  have h0 : val_main_call0_v0 (F := Ideal) x0 (ix1 r) = (M : EReal) := by
    unfold val_main_call0_v0
    rw [row_fold, val_main_call0_cst_apply]
    have e : (fun j : Fin 1000 => x0 (ix2 r j)) = fun j => (P r j : EReal) := funext fun j => D.rows r j
    rw [e, show (FloatOps.ofBits .f32 0xFF800000#32 : Ideal .f32) = ⊥ from lit_bot]
    exact hM
  have h1 : val_main_call0_v1 (F := Ideal) (ix1 r) = (⊥ : EReal) := by
    rw [val_main_call0_v1_apply, val_main_call0_cst_0_apply]
    exact lit_bot
  rw [val_main_call0_v2_apply, h0, h1]
  exact max_eq_right bot_le

/-- A logit less the greatest of its row. -/
theorem shift_read (D : IsData x0 x1 x2 P T s) {r : Fin 16384} {M : ℝ}
    (hM : val_main_call0_v2 (F := Ideal) x0 (ix1 r) = (M : EReal)) (j : Fin 1000) :
    val_main_call0_v5 (F := Ideal) x0 (ix2 r j) = (P r j : EReal) - (M : EReal) := by
  rw [val_main_call0_v5_apply, val_main_call0_v4_apply, val_main_call0_v3_apply, D.rows, ← hM,
    show idx_main_call0_v3 (idx_main_call0_v4 (ix2 r j)) = ix1 r from eq_ix1 _]
  rfl

/-- The logarithm of the sum of the exponentials of a row so shifted. -/
theorem log_read (D : IsData x0 x1 x2 P T s) {r : Fin 16384} {M : ℝ}
    (hM : val_main_call0_v2 (F := Ideal) x0 (ix1 r) = (M : EReal)) (j : Fin 1000) :
    val_main_call0_v10 (F := Ideal) x0 (ix2 r j) = ((lse (P r) - M : ℝ) : EReal) := by
  have h7 : val_main_call0_v7 (F := Ideal) x0 (ix1 r)
      = ∑ k : Fin 1000, Ideal.exp ((P r k : EReal) - (M : EReal)) := by
    rw [val_main_call0_v7_apply, val_main_call0_cst_1_apply,
      show (FloatOps.ofBits .f32 0x00000000#32 : Ideal .f32) = (0 : EReal) from Ideal.ofBits_zero_f32, zero_add]
    refine Finset.sum_congr rfl fun k _ => ?_
    rw [val_main_call0_v6_apply, show idx_main_call0_v7 (ix1 r) k = ix2 r k from eq_ix2 _, shift_read D hM]
    rfl
  rw [← log_shifted, ← h7, val_main_call0_v10_apply, val_main_call0_v9_apply, val_main_call0_v8_apply,
    show idx_main_call0_v8 (idx_main_call0_v10 (ix2 r j)) = ix1 r from eq_ix1 _]
  generalize val_main_call0_v7 (F := Ideal) x0 (ix1 r) = y
  rfl

/-- The reference's logarithm of the softmax: the logit less the row's log-sum-exp. -/
theorem logits_read (D : IsData x0 x1 x2 P T s) (r : Fin 16384) (j : Fin 1000) :
    val_main_v0 (F := Ideal) x0 (ix2 r j) = ((P r j - lse (P r) : ℝ) : EReal) := by
  obtain ⟨M, hM⟩ := rowMax_real D r
  rw [val_main_v0_apply, shift_read D hM, log_read D hM]
  refine (?_ : (P r j : EReal) - (M : EReal) - ((lse (P r) - M : ℝ) : EReal) = _)
  rw [← EReal.coe_sub, ← EReal.coe_sub, sub_sub, add_sub_cancel]

end Cert.Proof
-- ==== Proof.RefLabels.lean ====
module
public import proofs.«01_k».proof.Proof.Gen.ReferenceIdeal.Read
public import proofs.«01_k».proof.Proof.Data
public import proofs.«01_k».proof.Proof.RowMath
public import Idealize.ShloMosaic.Lib.Pointwise
public import Idealize.ShloMosaic.Lib.Routing.OpsSet
public import Idealize.ShloMosaic.Lib.Routing.OpsPair
public import Idealize.ShloMosaic.Lib.ReduceAll

/-!
The reference's smoothed labels: the rows of the similarity matrix the labels pick, scaled, and the confidence set at
the labels.
-/

@[expose] public section
set_option maxRecDepth 16384
noncomputable section
namespace Cert.Proof
open Idealize.ShloMosaic Cert.ReferenceIdeal Cert.ReferenceIdeal.Gen Cert.ReferenceIdeal.Read

variable {x0 : FVec Ideal (⟨2, ![16384, 1000]⟩ : Shape) .f32} {x1 : IVec (⟨1, ![16384]⟩ : Shape) 32}
  {x2 : FVec Ideal (⟨2, ![1000, 1000]⟩ : Shape) .f32}
  {P : Fin 16384 → Fin 1000 → ℝ} {T : Fin 16384 → Fin 1000} {s : Fin 1000 → Fin 1000 → ℝ}

/-- Taking negative numbers from the end leaves a small number's word as it is. -/
theorem wrap_small {n : Nat} (hn : n < 2 ^ 31) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

/-- The row number looked up for row `r` is its label. -/
theorem take_index (D : IsData x0 x1 x2 P T s) (r : Fin 16384) :
    val_main_call1_v5 (F := Ideal) x1 (ix2 r (0 : Fin 1)) = BitVec.ofNat 32 (T r).val := by
  rw [← wrap_small (lt_trans (T r).isLt (by norm_num)) (IntOp.addi (BitVec.ofNat 32 (T r).val) 1000#32)]
  rw [← D.labels]
  pointwise [val_main_call1_v5, val_main_call1_v4, val_main_call1_v3, val_main_call1_v2, val_main_call1_v1, val_main_call1_v0,
    val_main_call1_c, val_main_call1_c_0]

/-- Every label is in range, so no row is filled. -/
theorem take_mask (D : IsData x0 x1 x2 P T s) (r : Fin 16384) :
    val_main_call1_v12 (F := Ideal) x1 (ix1 r) = 1#1 := by
  have h : ∀ q : Fin 16384, val_main_call1_v11 (F := Ideal) x1 (ix2 q (0 : Fin 1)) = 1#1 := fun q => by
    show IntOp.andi (IntOp.cmpi .sge (val_main_call1_v5 (F := Ideal) x1 (ix2 q (0 : Fin 1))) 0#32)
      (IntOp.cmpi .sle (val_main_call1_v5 (F := Ideal) x1 (ix2 q (0 : Fin 1))) 999#32) = 1#1
    rw [take_index D]
    generalize T q = t
    revert t
    decide
  refine Host.reduce_andi_one _ _ _ _ _ rfl fun i => ?_
  rw [eq_ix2 i, show i 1 = (0 : Fin 1) from Fin.fin_one_eq_zero _]
  exact h (i 0)

/-- The looked up rows are the similarity rows of the labels. -/
theorem take_read (D : IsData x0 x1 x2 P T s) (r : Fin 16384) (j : Fin 1000) :
    val_main_v1 (F := Ideal) x1 x2 (ix2 r j) = (s (T r) j : EReal) := by
  rw [val_main_v1_apply, val_main_call1_v14_apply]
  rw [show idx_main_call1_v14 (ix2 r j) = ix1 r from eq_ix1 _, take_mask D, ← D.sims]
  exact Routing.gather_row _ rfl rfl rfl rfl rfl x2 _ r j (T r) (take_index D r) (by norm_num)

/-- Before the confidences are set, entry `j` of row `r` is the scaled similarity. -/
theorem scaled_read (D : IsData x0 x1 x2 P T s) (r : Fin 16384) (j : Fin 1000) :
    val_main_v3 (F := Ideal) x1 x2 (ix2 r j) = ((s (T r) j * smooth : ℝ) : EReal) := by
  rw [val_main_v3_apply, take_read D, EReal.coe_mul, ← lit_smooth]
  rfl

/-- The first of the two words that place confidence `r` is the row's number. -/
theorem place_row (r : Fin 16384) :
    val_main_v17 (F := Ideal) x1 (ix2 r (0 : Fin 2)) = BitVec.ofNat 32 r.val := by
  rw [← wrap_small (n := r.val) (by omega) (IntOp.addi (BitVec.ofNat 32 r.val) 16384#32)]
  pointwise [val_main_v17, val_main_v15, val_main_v9, val_main_v8, val_main_v7, val_main_v6, val_main_v5, val_main_v4,
    val_main_c, val_main_c_0]

/-- The second is the row's label. -/
theorem place_class (D : IsData x0 x1 x2 P T s) (r : Fin 16384) :
    val_main_v17 (F := Ideal) x1 (ix2 r (1 : Fin 2)) = BitVec.ofNat 32 (T r).val := by
  rw [← wrap_small (lt_trans (T r).isLt (by norm_num)) (IntOp.addi (BitVec.ofNat 32 (T r).val) 1000#32)]
  rw [← D.labels]
  pointwise [val_main_v17, val_main_v16, val_main_v14, val_main_v13, val_main_v12, val_main_v11, val_main_v10,
    val_main_c_1, val_main_c_2]

/-- Confidence `k` is set at the entry its two words name. -/
theorem lands_iff (w : IVec S16384x2 32) (k r : Fin 16384) (j : Fin 1000) :
    scatter_S16384x1000_S16384x2_S16384_n_01_01_1.resultIdx? (ix1 k) w = some (ix2 r j)
      ↔ (w (ix2 k (0 : Fin 2))).toInt = r.val ∧ (w (ix2 k (1 : Fin 2))).toInt = j.val := by
  have e0 : scatter_S16384x1000_S16384x2_S16384_n_01_01_1.start (ix1 k) w 0 = (w (ix2 k (0 : Fin 2))).toInt := by
    unfold ScatterDims.start
    rw [dif_pos (by decide)]
    congr 2
    funext b
    match b with
    | ⟨0, _⟩ => rfl
    | ⟨1, _⟩ => rfl
  have e1 : scatter_S16384x1000_S16384x2_S16384_n_01_01_1.start (ix1 k) w 1 = (w (ix2 k (1 : Fin 2))).toInt := by
    unfold ScatterDims.start
    rw [dif_pos (by decide)]
    congr 2
    funext b
    match b with
    | ⟨0, _⟩ => rfl
    | ⟨1, _⟩ => rfl
  have w0 : scatter_S16384x1000_S16384x2_S16384_n_01_01_1.window (ix1 k) 0 = 0 := rfl
  have w1 : scatter_S16384x1000_S16384x2_S16384_n_01_01_1.window (ix1 k) 1 = 0 := rfl
  refine (Routing.resultIdx?_ix2 scatter_S16384x1000_S16384x2_S16384_n_01_01_1 (ix1 k) w r j).trans ?_
  rw [e0, e1, w0, w1]
  simp

/-- The reference's labels are the smoothed labels. -/
theorem labels_read (D : IsData x0 x1 x2 P T s) (r : Fin 16384) (j : Fin 1000) :
    val_main_v19 (F := Ideal) x1 x2 (ix2 r j) = ((label s (T r) j : ℝ) : EReal) := by
  have land : ∀ k : Fin 16384, scatter_S16384x1000_S16384x2_S16384_n_01_01_1.resultIdx? (ix1 k)
      (val_main_v17 (F := Ideal) x1) = some (ix2 r j) ↔ k = r ∧ T k = j := fun k => by
    have hT := (T k).isLt
    have hk := k.isLt
    rw [lands_iff, place_row, place_class D, StableHlo.Predicate.toInt_ofNat_small _ (by omega),
      StableHlo.Predicate.toInt_ofNat_small _ (by omega), Fin.ext_iff, Fin.ext_iff]
    omega
  unfold label
  by_cases h : j = T r
  · rw [if_pos h]
    exact Routing.scatter_set_hit _ _ _ _ _ _ (fun k _ => lit_conf) (ix1 r) ((land r).mpr ⟨rfl, h.symm⟩)
  · rw [if_neg h, ← scaled_read D]
    refine Routing.scatter_set_miss _ _ _ _ _ fun k hk => ?_
    rw [eq_ix1 k] at hk
    obtain ⟨e, e'⟩ := (land _).mp hk
    rw [e] at e'
    exact h e'.symm

end Cert.Proof
-- ==== Proof.RefMean.lean ====
module
public import proofs.«01_k».proof.Proof.RefLogits
public import proofs.«01_k».proof.Proof.RefLabels
public import proofs.«01_k».proof.Proof.Total

/-!
The reference's result: the mean over the rows of their losses.
-/

@[expose] public section
set_option maxRecDepth 16384
noncomputable section
namespace Cert.Proof
open Idealize.ShloMosaic Cert.ReferenceIdeal Cert.ReferenceIdeal.Gen Cert.ReferenceIdeal.Read

variable {x0 : FVec Ideal (⟨2, ![16384, 1000]⟩ : Shape) .f32} {x1 : IVec (⟨1, ![16384]⟩ : Shape) 32}
  {x2 : FVec Ideal (⟨2, ![1000, 1000]⟩ : Shape) .f32}
  {P : Fin 16384 → Fin 1000 → ℝ} {T : Fin 16384 → Fin 1000} {s : Fin 1000 → Fin 1000 → ℝ}

/-- The reference's sum over the classes of a row is the loss of the row. -/
theorem row_read (D : IsData x0 x1 x2 P T s) (r : Fin 16384) :
    val_main_v22 (F := Ideal) x0 x1 x2 (ix1 r) = ((rowLoss s (T r) (P r) : ℝ) : EReal) := by
  rw [val_main_v22_apply, val_main_cst_4_apply,
    show (FloatOps.ofBits .f32 0x00000000#32 : Ideal .f32) = (0 : EReal) from Ideal.ofBits_zero_f32, zero_add, rowLoss, ← coe_sum]
  refine Finset.sum_congr rfl fun j _ => ?_
  rw [show idx_main_v22 (ix1 r) j = ix2 r j from eq_ix2 _, val_main_v21_apply, val_main_v20_apply, labels_read D, logits_read D]
  refine (?_ : -((label s (T r) j : ℝ) : EReal) * ((P r j - lse (P r) : ℝ) : EReal) = _)
  rw [← EReal.coe_neg, ← EReal.coe_mul]

/-- The reference's sum over the rows. -/
theorem rows_read (D : IsData x0 x1 x2 P T s) (i : S_.Idx) :
    val_main_v23 (F := Ideal) x0 x1 x2 i = ((∑ r, rowLoss s (T r) (P r) : ℝ) : EReal) := by
  rw [val_main_v23_apply, val_main_cst_5_apply,
    show (FloatOps.ofBits .f32 0x00000000#32 : Ideal .f32) = (0 : EReal) from Ideal.ofBits_zero_f32, zero_add, ← coe_sum]
  refine (Fintype.sum_equiv ⟨fun r => ix1 r, fun j => j 0, fun _ => rfl, fun j => (eq_ix1 j).symm⟩ _ _ fun r => ?_).symm
  exact (row_read D r).symm

/-- The reference's result is the mean of the rows' losses. -/
theorem mean_read (D : IsData x0 x1 x2 P T s) :
    val_main_v24 (F := Ideal) x0 x1 x2 = fun _ => (meanLoss s T P : EReal) := by
  funext i
  rw [val_main_v24_apply, rows_read D, val_main_cst_6_apply,
    show (FloatOps.ofBits .f32 0x46800000#32 : Ideal .f32) = ((16384 : ℝ) : EReal) from lit_rows]
  refine (?_ : Ideal.div ((∑ r, rowLoss s (T r) (P r) : ℝ) : EReal) ((16384 : ℝ) : EReal) = _)
  rw [Ideal.div_coe (by norm_num), ← EReal.coe_mul, mul_one_div, meanLoss]

end Cert.Proof
-- ==== Proof.Equation.lean ====
module
public import proofs.«01_k».proof.Defs
public import proofs.«01_k».proof.Proof.KernelRun
public import proofs.«01_k».proof.Proof.RefMean
public import proofs.«01_k».proof.Proof.Gen.KernelIdeal.Frame
public import proofs.«01_k».proof.Proof.Gen.ReferenceIdeal.Run

/-!
The two programs end with the same number: each with the mean of the rows' losses.
-/

@[expose] public section
set_option maxRecDepth 16384
noncomputable section
namespace Cert.Proof
open Idealize.ShloMosaic Idealize.ShloMosaic.TcCoe Idealize.SL.Sem

/-- The reference runs to the mean, on every device to that of the device's own arguments. -/
theorem reference_run {m : (ℓ : Loc Cert.ReferenceIdeal.nD Cert.ReferenceIdeal.τ Cert.ReferenceIdeal.sig) → Buf (Elt Ideal) ℓ}
    (g : Dev Cert.ReferenceIdeal.nD → PrngReg) {P : Dev Cert.ReferenceIdeal.nD → Fin 16384 → Fin 1000 → ℝ}
    {T : Dev Cert.ReferenceIdeal.nD → Fin 16384 → Fin 1000} {s : Dev Cert.ReferenceIdeal.nD → Fin 1000 → Fin 1000 → ℝ}
    (D : ∀ c : Dev Cert.ReferenceIdeal.nD,
      IsData (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2)) (P c) (T c) (s c)) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v24)
            = (fun _ => (meanLoss (s c) (T c) (P c) : EReal) : Vec Ideal Cert.ReferenceIdeal.S_ .f32)
          ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)) :=
  (θ_run _ _ _).mono (fun _ h c =>
    ⟨((h c).1.trans (Cert.ReferenceIdeal.Read.val_main_v24_eq _ _ _)).trans (mean_read (D c)), (h c).2⟩)
    (Cert.ReferenceIdeal.Value.run m g)

/-- The reference terminates, keeps its arguments and leaves every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, sem_eq_zero_of_no_sems (by decide) r.2⟩)
    (Cert.ReferenceIdeal.Value.run m g)

/-- Kernel and reference compute the same number over the extended reals. -/
theorem equation : algebraic_KernelIdeal_ReferenceIdeal_pre_finite_in_range (hKernelIdeal := Cert.KernelIdeal.Gen.facts)
    (hReferenceIdeal := Cert.ReferenceIdeal.Gen.facts) (hPre_finite_in_range := preFacts) := by
  intro m g m' g' hp ha
  have D : ∀ c : Dev Cert.KernelIdeal.nD, ∃ P T s, DataAt m P T s c := fun c =>
    @data_of_pre preFacts _ _ _ (hp c).1 (hp c).2.1 (hp c).2.2
  choose P T s D using D
  refine ⟨fun c => (fun _ => (meanLoss (s c) (T c) (P c) : EReal)), ?_, ?_⟩
  · exact (θ_run _ _ _).mono (fun r h c => ⟨h.1 c, (h.2.1 c)⟩)
      (θ_run_and (kernel_run g D) (Cert.KernelIdeal.Gen.frame m g))
  · refine reference_run g' fun c => ?_
    rw [(ha c).1, (ha c).2.1, (ha c).2.2]
    exact D c

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything the certificate states: each program's frame, and the equation. -/
theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ, trivial, equation⟩

end Cert.Proof

end
